-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x28x28 : Shape := ⟨3, ![1024, 28, 28]⟩
abbrev S_ : Shape := ⟨0, ![]⟩
abbrev S784x64 : Shape := ⟨2, ![784, 64]⟩
abbrev S64 : Shape := ⟨1, ![64]⟩
abbrev S64x64 : Shape := ⟨2, ![64, 64]⟩
abbrev S32x10 : Shape := ⟨2, ![32, 10]⟩
abbrev S10 : Shape := ⟨1, ![10]⟩

class Facts : Prop where
  bcast_S_S1024x28x28 : S_.BroadcastsInDim S1024x28x28 (![] : Fin 0 → Fin S1024x28x28.rank)
  reducesTo_S1024x28x28_S_d0_1_2 : S1024x28x28.ReducesTo [0, 1, 2] S_
  h_S_ : 0 < S_.numel
  bcast_S_S784x64 : S_.BroadcastsInDim S784x64 (![] : Fin 0 → Fin S784x64.rank)
  reducesTo_S784x64_S_d0_1 : S784x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S1024x28x28 .f32) (main_arg1 : IVec S_ 1) (main_arg2 : FVec F S784x64 .f32) (main_arg3 : FVec F S64 .f32) (main_arg4 : FVec F S64x64 .f32) (main_arg5 : FVec F S64x64 .f32) (main_arg6 : FVec F S64x64 .f32) (main_arg7 : FVec F S64x64 .f32) (main_arg8 : FVec F S64 .f32) (main_arg9 : FVec F S64 .f32) (main_arg10 : FVec F S64 .f32) (main_arg11 : FVec F S32x10 .f32) (main_arg12 : FVec F S10 .f32) : IVec S_ 1 :=
  let main_v0 : FVec F S1024x28x28 .f32 := Host.absf main_arg0
  let main_cst : FVec F S_ .f32 := constant S_ .f32 0x7F800000#32
  let main_v1 : FVec F S1024x28x28 .f32 := broadcastInDim S1024x28x28 ![] bcast_S_S1024x28x28 main_cst
  let main_v2 : IVec S1024x28x28 1 := cmpf .olt main_v0 main_v1
  let main_c : IVec S_ 1 := constantI S_ 1 1#1
  let main_v3 : IVec S_ 1 := (fun x v => Host.reduce IntOp.andi x v reducesTo_S1024x28x28_S_d0_1_2 h_S_) main_v2 main_c
  let main_v4 : FVec F S784x64 .f32 := Host.absf main_arg2
  let main_cst_0 : FVec F S_ .f32 := constant S_ .f32 0x7F800000#32
  let main_v5 : FVec F S784x64 .f32 := broadcastInDim S784x64 ![] bcast_S_S784x64 main_cst_0
  let main_v6 : IVec S784x64 1 := cmpf .olt main_v4 main_v5
  let main_c_1 : IVec S_ 1 := constantI S_ 1 1#1
  let main_v7 : IVec S_ 1 := (fun x v => Host.reduce IntOp.andi x v reducesTo_S784x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1024x28x28 : Shape := ⟨3, ![1024, 28, 28]⟩
abbrev S_ : Shape := ⟨0, ![]⟩
abbrev S784x64 : Shape := ⟨2, ![784, 64]⟩
abbrev S64 : Shape := ⟨1, ![64]⟩
abbrev S64x64 : Shape := ⟨2, ![64, 64]⟩
abbrev S32x10 : Shape := ⟨2, ![32, 10]⟩
abbrev S10 : Shape := ⟨1, ![10]⟩
abbrev S1024x784 : Shape := ⟨2, ![1024, 784]⟩
abbrev S1x64 : Shape := ⟨2, ![1, 64]⟩
abbrev S1x10 : Shape := ⟨2, ![1, 10]⟩
abbrev S1024x10 : Shape := ⟨2, ![1024, 10]⟩
abbrev S1024x64 : Shape := ⟨2, ![1024, 64]⟩
abbrev S64x32 : Shape := ⟨2, ![64, 32]⟩
abbrev S1024x32 : Shape := ⟨2, ![1024, 32]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 13
  | .smem => 0
  | _ => 0

abbrev bufTy : (tb : Table) → Fin (tcTables nBuf tb) → BufTy
  | .hbm, ⟨0, _⟩ => ⟨S1024x28x28, .f32⟩
  | .hbm, ⟨1, _⟩ => ⟨S_, .i1⟩
  | .hbm, ⟨2, _⟩ => ⟨S784x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S32x10, .f32⟩
  | .hbm, ⟨12, _⟩ => ⟨S10, .f32⟩
  | .hbm, ⟨13, _⟩ => ⟨S1024x784, .f32⟩
  | .hbm, ⟨14, _⟩ => ⟨S1024x784, .bf16⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x10, .f32⟩
  | .hbm, ⟨20, _⟩ => ⟨S1024x10, .f32⟩
  | .local _ .vmem, ⟨0, _⟩ => ⟨S1024x784, .bf16⟩
  | .local _ .vmem, ⟨1, _⟩ => ⟨S784x64, .f32⟩
  | .local _ .vmem, ⟨2, _⟩ => ⟨S1x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S32x10, .f32⟩
  | .local _ .vmem, ⟨11, _⟩ => ⟨S1x10, .f32⟩
  | .local _ .vmem, ⟨12, _⟩ => ⟨S1024x10, .f32⟩
  | _, _ => ⟨S1024x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x784 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S784x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S1024x28x28 : Shape := ⟨3, ![1024, 28, 28]⟩
abbrev S_ : Shape := ⟨0, ![]⟩
abbrev S784x64 : Shape := ⟨2, ![784, 64]⟩
abbrev S64 : Shape := ⟨1, ![64]⟩
abbrev S64x64 : Shape := ⟨2, ![64, 64]⟩
abbrev S32x10 : Shape := ⟨2, ![32, 10]⟩
abbrev S10 : Shape := ⟨1, ![10]⟩
abbrev S1024x784 : Shape := ⟨2, ![1024, 784]⟩
abbrev S1024 : Shape := ⟨1, ![1024]⟩
abbrev S1x1024 : Shape := ⟨2, ![1, 1024]⟩
abbrev S1024x1024 : Shape := ⟨2, ![1024, 1024]⟩
abbrev S1048576 : Shape := ⟨1, ![1048576]⟩
abbrev S1024x64 : Shape := ⟨2, ![1024, 64]⟩
abbrev S1x64 : Shape := ⟨2, ![1, 64]⟩
abbrev S1048576x1 : Shape := ⟨2, ![1048576, 1]⟩
abbrev S1048576x64 : Shape := ⟨2, ![1048576, 64]⟩
abbrev S1024x32x2 : Shape := ⟨3, ![1024, 32, 2]⟩
abbrev S1024x32 : Shape := ⟨2, ![1024, 32]⟩
abbrev S32x1024 : Shape := ⟨2, ![32, 1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 142
  | .vmem => 0
  | .smem => 0
  | _ => 0

abbrev hbmTy0_0 (i : Nat) : BufTy := match i % 128 with
  | 0 => ⟨S1024x28x28, .f32⟩
  | 1 => ⟨S_, .i1⟩
  | 2 => ⟨S784x64, .f32⟩
  | 3 => ⟨S64, .f32⟩
  | 4 => ⟨S64x64, .f32⟩
  | 5 => ⟨S64x64, .f32⟩
  | 6 => ⟨S64x64, .f32⟩
  | 7 => ⟨S64x64, .f32⟩
  | 8 => ⟨S64, .f32⟩
  | 9 => ⟨S64, .f32⟩
  | 10 => ⟨S64, .f32⟩
  | 11 => ⟨S32x10, .f32⟩
  | 12 => ⟨S10, .f32⟩
  | 13 => ⟨S1024x784, .f32⟩
  | 14 => ⟨S1024, .i32⟩
  | 15 => ⟨S1x1024, .i32⟩
  | 16 => ⟨S1024x1024, .i32⟩
  | 17 => ⟨S1048576, .i32⟩
  | 18 => ⟨S1024x64, .f32⟩
  | 19 => ⟨S1x64, .f32⟩
  | 20 => ⟨S1024x64, .f32⟩
  | 21 => ⟨S1024x64, .f32⟩
  | 22 => ⟨S1024x64, .f32⟩
  | 23 => ⟨S1024x64, .f32⟩
  | 24 => ⟨S1024x64, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S1048576x64, .f32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x64, .f32⟩
  | 43 => ⟨S1048576x64, .f32⟩
  | 44 => ⟨S1048576x64, .f32⟩
  | 45 => ⟨S1048576x64, .f32⟩
  | 46 => ⟨S_, .f32⟩
  | 47 => ⟨S1048576x64, .f32⟩
  | 48 => ⟨S1048576x64, .f32⟩
  | 49 => ⟨S_, .f32⟩
  | 50 => ⟨S1048576x64, .f32⟩
  | 51 => ⟨S1048576x64, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576x64, .f32⟩
  | 61 => ⟨S1048576x64, .f32⟩
  | 62 => ⟨S_, .f32⟩
  | 63 => ⟨S1024x64, .f32⟩
  | 64 => ⟨S1048576x1, .i32⟩
  | 65 => ⟨S1024x64, .f32⟩
  | 66 => ⟨S1024x64, .f32⟩
  | 67 => ⟨S1x64, .f32⟩
  | 68 => ⟨S1024x64, .f32⟩
  | 69 => ⟨S1024x64, .f32⟩
  | 70 => ⟨S1024x64, .f32⟩
  | 71 => ⟨S_, .f32⟩
  | 72 => ⟨S1024x64, .f32⟩
  | 73 => ⟨S1024x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S1024x64, .f32⟩
  | 87 => ⟨S1024x64, .f32⟩
  | 88 => ⟨S1024x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S1024x64, .f32⟩
  | 104 => ⟨S1024x64, .f32⟩
  | 105 => ⟨S_, .f32⟩
  | 106 => ⟨S64, .f32⟩
  | 107 => ⟨S64, .f32⟩
  | 108 => ⟨S64, .f32⟩
  | 109 => ⟨S1x64, .f32⟩
  | 110 => ⟨S1024x64, .f32⟩
  | 111 => ⟨S1024x64, .f32⟩
  | 112 => ⟨S1x64, .f32⟩
  | 113 => ⟨S1024x64, .f32⟩
  | 114 => ⟨S1024x64, .f32⟩
  | 115 => ⟨S1x64, .f32⟩
  | 116 => ⟨S1024x64, .f32⟩
  | 117 => ⟨S1024x64, .f32⟩
  | 118 => ⟨S1024x32x2, .f32⟩
  | 119 => ⟨S_, .f32⟩
  | 120 => ⟨S1024x32, .f32⟩
  | 121 => ⟨S32x1024, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S1024x28x28, .f32⟩

abbrev hbmTy0_1 (i : Nat) : BufTy := match i % 128 with
  | 0 => ⟨S_, .f32⟩
  | 1 => ⟨S1024x1024, .f32⟩
  | 2 => ⟨S1024x1024, .f32⟩
  | 3 => ⟨S_, .f32⟩
  | 4 => ⟨S1024, .f32⟩
  | 5 => ⟨S1024x1, .f32⟩
  | 6 => ⟨S1024x1024, .f32⟩
  | 7 => ⟨S1024x1024, .f32⟩
  | 8 => ⟨S1024x32, .f32⟩
  | 9 => ⟨S1024x32, .f32⟩
  | 10 => ⟨S1024x10, .f32⟩
  | 11 => ⟨S1x10, .f32⟩
  | 12 => ⟨S1024x10, .f32⟩
  | 13 => ⟨S1024x10, .f32⟩
  | _ => ⟨S1024x28x28, .f32⟩

abbrev hbmTy (i : Nat) : BufTy := match i / 128 with
  | 0 => hbmTy0_0 i
  | 1 => hbmTy0_1 i
  | _ => ⟨S1024x28x28, .f32⟩

abbrev bufTy : (tb : Table) → Fin (tcTables nBuf tb) → BufTy
  | .hbm, ⟨i, _⟩ => hbmTy i
  | _, _ => ⟨S1024x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_10 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_12 : Ref sig .tc := ⟨.hbm, 125, rfl⟩
abbrev main_v75 : Ref sig .tc := ⟨.hbm, 126, rfl⟩
abbrev main_v76 : Ref sig .tc := ⟨.hbm, 127, rfl⟩
abbrev main_cst_13 : Ref sig .tc := ⟨.hbm, 128, rfl⟩
abbrev main_v77 : Ref sig .tc := ⟨.hbm, 129, rfl⟩
abbrev main_v78 : Ref sig .tc := ⟨.hbm, 130, rfl⟩
abbrev main_cst_14 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩

abbrev nD : Nat := 1
abbrev τ : Topo := Topo.v7x

variable {F : FTy → Type} [FloatOps F]
-- ==== Proof.Scalars.lean ====
/-
  Hand-written, untrusted. FACTS ABOUT SINGLE EXTENDED REALS that the two programs' values are compared by: the literals they
  spell, a sum of products by a real factor, `1/2 + 1/2 tanh (x/2)` as the logistic function, a product with `rsqrt` as a
  quotient by `sqrt`, a common divisor taken out of a sum of products, and a sum that a 0/1 column reduces to one of its terms.
  No program is named here.
-/
module

public import Idealize.ShloMosaic.Lib.Pipeline.ValueKit
public import Idealize.ShloMosaic.Lib.IdealHost

@[expose] public section

noncomputable section

namespace Cert.Proof

open Idealize.ShloMosaic

/-! ## Literals -/

/-- The literal `1024.0`. -/
theorem lit_1024 : Ideal.ofBits .f32 0x44800000#32 = ((1024 : ℝ) : EReal) := by
  simp [Ideal.ofBits, Ideal.ieee]; norm_num [zpow_neg]; rw [← EReal.coe_mul]; norm_num

/-- The literal `0.5`. -/
theorem lit_half : Ideal.ofBits .f32 0x3F000000#32 = ((1 / 2 : ℝ) : EReal) := by
  simp [Ideal.ofBits, Ideal.ieee]; norm_num [zpow_neg]; rw [← EReal.coe_mul]; norm_num

/-- The literal `-∞`. -/
theorem lit_bot : Ideal.ofBits .f32 0xFF800000#32 = ⊥ := by
  simp [Ideal.ofBits, Ideal.ieee]

/-- The literal `+∞`. -/
theorem lit_top : Ideal.ofBits .f32 0x7F800000#32 = ⊤ := by
  simp [Ideal.ofBits, Ideal.ieee]

/-- The integer zero as a float. -/
theorem sitofp_zero : (FloatOps.sitofp (F := Ideal) FTy.f32 0#32 : EReal) = 0 := by
  show (((0#32 : BitVec 32).toInt : ℝ) : EReal) = 0
  simp

/-- The maximum of two numbers, taken as a fold from `-∞`. -/
theorem fold_max_two (f : Fin 2 → EReal) : Finset.fold max ⊥ f Finset.univ = max (f 0) (f 1) := by
  rw [show (Finset.univ : Finset (Fin 2)) = {0, 1} from rfl]
  simp

/-- The literal near `1e-5` is a positive real. -/
theorem lit_eps : ∃ r : ℝ, 0 < r ∧ Ideal.ofBits .f32 0x3727C5AC#32 = (r : EReal) := by
  refine ⟨(2 ^ 23 + 2606508 : Nat) * (2 : ℝ) ^ ((110 : Int) - 127 - 23), by positivity, ?_⟩
  simp [Ideal.ofBits, Ideal.ieee]

/-! ## Products and sums -/

/-- A real factor distributes over a sum of which one term is real, whatever the other is. -/
theorem real_mul_add (x q : ℝ) (k : EReal) : (x : EReal) * (k + q) = x * k + x * q := by
  induction k with
  | bot =>
    rcases lt_trichotomy x 0 with h | h | h
    · rw [EReal.bot_add, EReal.coe_mul_bot_of_neg h, ← EReal.coe_mul, EReal.top_add_coe]
    · subst h; simp
    · rw [EReal.bot_add, EReal.coe_mul_bot_of_pos h, EReal.bot_add]
  | coe k => rw [← EReal.coe_add, ← EReal.coe_mul, ← EReal.coe_mul, ← EReal.coe_mul, ← EReal.coe_add, mul_add]
  | top =>
    rcases lt_trichotomy x 0 with h | h | h
    · rw [EReal.top_add_coe, EReal.coe_mul_top_of_neg h, EReal.bot_add]
    · subst h; simp
    · rw [EReal.top_add_coe, EReal.coe_mul_top_of_pos h, ← EReal.coe_mul, EReal.top_add_coe]

/-- The sum of `n` copies of one value is the value times the real `n`. -/
theorem sum_const_eq_mul (n : ℕ) (hn : n ≠ 0) (m : EReal) : ∑ _j : Fin n, m = ((n : ℝ) : EReal) * m := by
  rw [Finset.sum_const, Finset.card_univ, Fintype.card_fin]
  have hpos : (0 : ℝ) < n := by exact_mod_cast Nat.pos_of_ne_zero hn
  obtain ⟨k, rfl⟩ := Nat.exists_eq_succ_of_ne_zero hn
  clear hn hpos
  induction k with
  | zero => simp
  | succ k ih =>
    rw [succ_nsmul, ih, show (((k + 1).succ : ℕ) : ℝ) = ((k.succ : ℕ) : ℝ) + 1 by push_cast; ring, EReal.coe_add,
      EReal.right_distrib_of_nonneg (by exact_mod_cast Nat.zero_le _) (by exact_mod_cast zero_le_one), EReal.coe_one, one_mul]

/-- A factor that is neither negative nor `⊤` distributes over any finite sum. -/
theorem sum_mul_of_nonneg {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- A positive common divisor may be applied before or after a sum of products: `∑ⱼ (aⱼ / r) pⱼ = (∑ⱼ aⱼ pⱼ) / r`. -/
theorem sum_div_mul {n : ℕ} (a p : Fin n → EReal) (r : EReal) (hr : 0 < r) :
    ∑ j, Ideal.div (a j) r * p j = Ideal.div (∑ j, a j * p j) r := by
  have hne : r ≠ 0 := hr.ne'
  simp only [Ideal.div, if_neg hne]
  rw [sum_mul_of_nonneg _ _ _ (EReal.inv_nonneg_of_nonneg hr.le) (EReal.inv_lt_top r).ne]
  exact Finset.sum_congr rfl fun j _ => mul_right_comm _ _ _

/-- A square is not negative. -/
theorem mul_self_nonneg' (x : EReal) : 0 ≤ x * x := by
  rcases le_total 0 x with h | h
  · exact mul_nonneg h h
  · rw [← neg_mul_neg]; exact mul_nonneg (by simpa using h) (by simpa using h)

/-- A sum of products with a column that is 1 at `k` and 0 elsewhere is the term at `k`. -/
theorem sum_mul_pick {n : ℕ} (f : Fin n → EReal) (w : Fin n → EReal) (k : Fin n) (h1 : w k = 1) (h0 : ∀ j, j ≠ k → w j = 0) :
    ∑ j, f j * w j = f k := by
  rw [Finset.sum_eq_single k (fun j _ hj => by rw [h0 j hj, mul_zero]) (fun h => (h (Finset.mem_univ _)).elim), h1, mul_one]

/-! ## The logistic function -/

/-- At a real, the logistic function is the real one. -/
theorem logistic_coe (x : ℝ) : Ideal.logistic (x : EReal) = ((1 / (1 + Real.exp (-x)) : ℝ) : EReal) := by
  have hp : (1 + Real.exp (-x) : ℝ) ≠ 0 := by positivity
  show Ideal.div 1 (1 + Ideal.exp (-(x : EReal))) = _
  rw [← EReal.coe_neg]
  show Ideal.div 1 (1 + ((Real.exp (-x) : ℝ) : EReal)) = _
  rw [← EReal.coe_one, ← EReal.coe_add, Ideal.div_coe hp, ← EReal.coe_mul, one_mul]

/-- At `⊥` the logistic function is 0. -/
theorem logistic_bot : Ideal.logistic ⊥ = 0 := by
  show Ideal.div 1 (1 + Ideal.exp (-⊥)) = 0
  rw [EReal.neg_bot]
  show Ideal.div 1 (1 + ⊤) = 0
  rw [← EReal.coe_one, EReal.coe_add_top]
  simp [Ideal.div]

/-- At `⊤` the logistic function is 1. -/
theorem logistic_top : Ideal.logistic ⊤ = 1 := by
  show Ideal.div 1 (1 + Ideal.exp (-⊤)) = 1
  rw [EReal.neg_top]
  show Ideal.div 1 (1 + 0) = 1
  rw [add_zero, ← EReal.coe_one, Ideal.div_coe one_ne_zero]
  simp

/-- `½ (1 + tanh (x · ½))` is the logistic function of `x`, at the infinities too. -/
theorem half_one_add_tanh (x : EReal) :
    ((1 / 2 : ℝ) : EReal) * (1 + Ideal.tanh (x * ((1 / 2 : ℝ) : EReal))) = Ideal.logistic x := by
  induction x with
  | bot =>
    rw [logistic_bot, EReal.bot_mul_coe_of_pos (by norm_num)]
    show ((1 / 2 : ℝ) : EReal) * (1 + -1) = 0
    rw [← EReal.coe_one, ← EReal.coe_neg, ← EReal.coe_add, add_neg_cancel, EReal.coe_zero, mul_zero]
  | coe x =>
    rw [logistic_coe, ← EReal.coe_mul]
    show ((1 / 2 : ℝ) : EReal) * (1 + ((Real.tanh (x * (1 / 2)) : ℝ) : EReal)) = _
    rw [← EReal.coe_one, ← EReal.coe_add, ← EReal.coe_mul]
    congr 1
    rw [Real.tanh_eq_sinh_div_cosh, Real.sinh_eq, Real.cosh_eq]
    have e1 : Real.exp (-x) = Real.exp (-(x * (1 / 2))) * Real.exp (-(x * (1 / 2))) := by rw [← Real.exp_add]; ring_nf
    have e2 : Real.exp (x * (1 / 2)) * Real.exp (-(x * (1 / 2))) = 1 := by rw [← Real.exp_add]; simp
    have hp := Real.exp_pos (x * (1 / 2))
    have hn := Real.exp_pos (-(x * (1 / 2)))
    rw [e1]
    generalize Real.exp (x * (1 / 2)) = u at *
    generalize Real.exp (-(x * (1 / 2))) = v at *
    have h1 : (u + v) / 2 ≠ 0 := by positivity
    have h2 : (1 + v * v) ≠ 0 := by positivity
    field_simp
    linear_combination (2 * v) * e2
  | top =>
    rw [logistic_top, EReal.top_mul_coe_of_pos (by norm_num)]
    show ((1 / 2 : ℝ) : EReal) * (1 + 1) = 1
    rw [← EReal.coe_one, ← EReal.coe_add, ← EReal.coe_mul]; norm_num

/-- The logistic function is nowhere negative. -/
theorem logistic_nonneg (x : EReal) : 0 ≤ Ideal.logistic x := by
  induction x with
  | bot => rw [logistic_bot]
  | coe x => rw [logistic_coe]; exact_mod_cast (by positivity : (0 : ℝ) ≤ 1 / (1 + Real.exp (-x)))
  | top => rw [logistic_top]; exact zero_le_one

/-- The logistic function is positive at a value that is not negative. -/
theorem logistic_pos {x : EReal} (hx : 0 ≤ x) : 0 < Ideal.logistic x := by
  induction x with
  | bot => exact absurd hx (by simp)
  | coe x => rw [logistic_coe]; exact_mod_cast (by positivity : (0 : ℝ) < 1 / (1 + Real.exp (-x)))
  | top => rw [logistic_top]; exact zero_lt_one

/-! ## The inverse square root -/

/-- At a positive value, `⊤` included, a product with the inverse square root is the quotient by the square root. -/
theorem mul_rsqrt (x : EReal) {y : EReal} (hy : 0 < y) : x * Ideal.rsqrt y = Ideal.div x (Ideal.sqrt y) := by
  induction y with
  | bot => exact absurd hy (by simp)
  | coe y =>
    have hy' : 0 < y := by exact_mod_cast hy
    have hs : Real.sqrt y ≠ 0 := (Real.sqrt_pos.2 hy').ne'
    show x * (if y < 0 then ⊥ else if y = 0 then ⊤ else (((Real.sqrt y)⁻¹ : ℝ) : EReal))
      = Ideal.div x (if y < 0 then ⊥ else ((Real.sqrt y : ℝ) : EReal))
    rw [if_neg hy'.not_gt, if_neg hy'.ne', if_neg hy'.not_gt, Ideal.div_coe hs, one_div]
  | top =>
    show x * 0 = Ideal.div x ⊤
    simp [Ideal.div]

/-- A quotient by a positive real of a value that is not negative, plus a positive real, is positive. -/
theorem div_add_pos {s : EReal} (hs : 0 ≤ s) {n : ℝ} (hn : 0 < n) {e : ℝ} (he : 0 < e) : 0 < Ideal.div s (n : EReal) + (e : EReal) := by
  rw [Ideal.div_coe hn.ne']
  have hq : 0 ≤ s * ((1 / n : ℝ) : EReal) := mul_nonneg hs (by exact_mod_cast (by positivity : (0 : ℝ) ≤ 1 / n))
  have he' : (0 : EReal) < (e : EReal) := by exact_mod_cast he
  exact he'.trans_le (le_add_of_nonneg_left hq)

end Cert.Proof

end
-- ==== Proof.Model.lean ====
/-
  Hand-written, untrusted. WHAT BOTH PROGRAMS COMPUTE, written once as functions of matrices of extended reals: a linear layer, a
  gated aggregation in which every row hears 1024 copies of its own message, a batch normalization over the rows, a maximum over
  neighbouring pairs of columns, a row-normalized affinity of the rows, and a last linear layer. The kernel's value
  (Proof/KernelValue.lean) and the reference's (Proof/RefValue.lean) are each brought to `network`.
-/
module

public import proofs.«01_k».proof.Proof.Scalars

@[expose] public section

noncomputable section

namespace Cert.Proof

open Idealize.ShloMosaic

/-- A matrix of extended reals. -/
abbrev Mat (n m : ℕ) : Type := Fin n → Fin m → EReal

/-- `a` is a real number. -/
def IsReal (a : EReal) : Prop := ∃ r : ℝ, a = (r : EReal)

theorem IsReal.add {a b : EReal} : IsReal a → IsReal b → IsReal (a + b) := by
  rintro ⟨x, rfl⟩ ⟨y, rfl⟩; exact ⟨x + y, (EReal.coe_add x y).symm⟩

theorem IsReal.mul {a b : EReal} : IsReal a → IsReal b → IsReal (a * b) := by
  rintro ⟨x, rfl⟩ ⟨y, rfl⟩; exact ⟨x * y, (EReal.coe_mul x y).symm⟩

theorem IsReal.sum {ι : Type} (s : Finset ι) {f : ι → EReal} (h : ∀ j, IsReal (f j)) : IsReal (∑ j ∈ s, f j) := by
  classical
  induction s using Finset.induction_on with
  | empty => exact ⟨0, by simp⟩
  | insert a s ha ih => rw [Finset.sum_insert ha]; exact (h a).add ih

/-- A value whose absolute value is below `⊤` is a real number. -/
theorem IsReal.of_abs_lt_top {a : EReal} (h : max a (-a) < ⊤) : IsReal a := by
  induction a with
  | bot => simp at h
  | coe r => exact ⟨r, rfl⟩
  | top => simp at h

/-! ## The layers -/

/-- The matrix product. -/
def mm {n k p : ℕ} (A : Mat n k) (B : Mat k p) : Mat n p := fun i j => ∑ l, A i l * B l j

/-- A linear layer: the product plus a bias per column. -/
def dense {n k p : ℕ} (A : Mat n k) (B : Mat k p) (b : Fin p → EReal) : Mat n p := fun i j => mm A B i j + b j

/-- The aggregation: a row's own linear image plus 1024 copies of its gated message, cut at zero from below. -/
def gated (X : Mat 1024 64) (Wk Wq Wv Ws : Mat 64 64) (bc : Fin 64 → EReal) : Mat 1024 64 := fun i f =>
  max (dense X Ws bc i f + ((1024 : ℝ) : EReal) * (Ideal.logistic (mm X Wk i f + mm X Wq i f) * mm X Wv i f)) 0

/-- A column's mean over the 1024 rows. -/
def mean (X : Mat 1024 64) (f : Fin 64) : EReal := Ideal.div (∑ i, X i f) ((1024 : ℝ) : EReal)

/-- A column less its mean. -/
def centred (X : Mat 1024 64) : Mat 1024 64 := fun i f => X i f - mean X f

/-- A column's variance over the 1024 rows. -/
def variance (X : Mat 1024 64) (f : Fin 64) : EReal :=
  Ideal.div (∑ i, centred X i f * centred X i f) ((1024 : ℝ) : EReal)

/-- The small constant under the square root. -/
def eps : EReal := Ideal.ofBits .f32 0x3727C5AC#32

/-- Batch normalization: the centred column over the root of its variance, scaled and shifted per column. -/
def normed (X : Mat 1024 64) (g b : Fin 64 → EReal) : Mat 1024 64 := fun i f =>
  Ideal.div (centred X i f) (Ideal.sqrt (variance X f + eps)) * g f + b f

/-- The larger of each pair of neighbouring columns. -/
def pooled (X : Mat 1024 64) : Mat 1024 32 := fun i c =>
  max (X i ⟨c.val * 2, by omega⟩) (X i ⟨c.val * 2 + 1, by omega⟩)

/-- The affinity of two rows: the logistic function of their inner product. -/
def affinity (P : Mat 1024 32) : Mat 1024 1024 := fun i j => Ideal.logistic (∑ c, P i c * P j c)

/-- Each row plus the average of all rows, weighted by its affinities divided by their sum. -/
def mixed (P : Mat 1024 32) : Mat 1024 32 := fun i c =>
  (∑ j, Ideal.div (affinity P i j) (∑ k, affinity P i k) * P j c) + P i c

/-- The pooled rows from the aggregated ones. -/
def features (X : Mat 1024 64) (g b : Fin 64 → EReal) : Mat 1024 32 := pooled (normed X g b)

/-- The whole network. -/
def network (x : Mat 1024 784) (Wa : Mat 784 64) (ba : Fin 64 → EReal) (Wk Wq Wv Ws : Mat 64 64) (bc g b : Fin 64 → EReal)
    (Wf : Mat 32 10) (bf : Fin 10 → EReal) : Mat 1024 10 :=
  dense (mixed (features (gated (dense x Wa ba) Wk Wq Wv Ws bc) g b)) Wf bf

/-! ## The network of arrays -/

/-- A matrix from an array of two axes. -/
abbrev mat {n m : ℕ} (v : (⟨2, ![n, m]⟩ : Shape).Idx → EReal) : Mat n m := fun i j => v (ix2 i j)

/-- A vector from an array of one row. -/
abbrev row {m : ℕ} (v : (⟨2, ![1, m]⟩ : Shape).Idx → EReal) : Fin m → EReal := fun j => v (ix2 0 j)

/-- A vector from an array of one axis. -/
abbrev vec {m : ℕ} (v : (⟨1, ![m]⟩ : Shape).Idx → EReal) : Fin m → EReal := fun j => v (ix1 j)

/-- The 1024 images, each of 28 rows of 28, as 1024 rows of 784. -/
abbrev images (v : (⟨3, ![1024, 28, 28]⟩ : Shape).Idx → EReal) : Mat 1024 784 := fun i k =>
  v (ix3 i ⟨k.val / 28, by omega⟩ ⟨k.val % 28, by omega⟩)

/-- The network of the argument arrays, as the result array. -/
def result (x : (⟨3, ![1024, 28, 28]⟩ : Shape).Idx → EReal) (Wa : (⟨2, ![784, 64]⟩ : Shape).Idx → EReal)
    (ba : (⟨1, ![64]⟩ : Shape).Idx → EReal) (Wk Wq Wv Ws : (⟨2, ![64, 64]⟩ : Shape).Idx → EReal)
    (bc g b : (⟨1, ![64]⟩ : Shape).Idx → EReal) (Wf : (⟨2, ![32, 10]⟩ : Shape).Idx → EReal)
    (bf : (⟨1, ![10]⟩ : Shape).Idx → EReal) : (⟨2, ![1024, 10]⟩ : Shape).Idx → EReal := fun j =>
  network (images x) (mat Wa) (vec ba) (mat Wk) (mat Wq) (mat Wv) (mat Ws) (vec bc) (vec g) (vec b) (mat Wf) (vec bf) (j 0) (j 1)

/-- Real images, weights and biases make a real first layer. -/
theorem dense_real {n k p : ℕ} {A : Mat n k} {B : Mat k p} {b : Fin p → EReal} (hA : ∀ i l, IsReal (A i l))
    (hB : ∀ l j, IsReal (B l j)) (hb : ∀ j, IsReal (b j)) (i : Fin n) (j : Fin p) : IsReal (dense A B b i j) :=
  (IsReal.sum _ fun l => (hA i l).mul (hB l j)).add (hb j)

/-! ## The kernel's spellings of the layers -/

/-- With real rows and a real query matrix, one product with the sum of the key and query matrices is the sum of the two
    products. -/
theorem mm_add {n k p : ℕ} {X : Mat n k} {Wk Wq : Mat k p} (hX : ∀ i l, IsReal (X i l)) (hq : ∀ l j, IsReal (Wq l j))
    (i : Fin n) (j : Fin p) : ∑ l, X i l * (Wk l j + Wq l j) = mm X Wk i j + mm X Wq i j := by
  unfold mm
  rw [← Finset.sum_add_distrib]
  refine Finset.sum_congr rfl fun l _ => ?_
  obtain ⟨x, hx⟩ := hX i l
  obtain ⟨q, hq⟩ := hq l j
  rw [hx, hq, real_mul_add]

/-- The variance plus the small constant is positive, whatever the column holds. -/
theorem variance_add_eps_pos (X : Mat 1024 64) (f : Fin 64) : 0 < variance X f + eps := by
  obtain ⟨e, he, hE⟩ := lit_eps
  rw [eps, hE]
  exact div_add_pos (Finset.sum_nonneg fun i _ => mul_self_nonneg' _) (by norm_num) he

/-- Normalizing by a product with the inverse root is normalizing by a quotient. -/
theorem centred_mul_rsqrt (X : Mat 1024 64) (g b : Fin 64 → EReal) (i : Fin 1024) (f : Fin 64) :
    centred X i f * Ideal.rsqrt (variance X f + eps) * g f + b f = normed X g b i f := by
  rw [mul_rsqrt _ (variance_add_eps_pos X f)]; rfl

/-- A row's affinities have a positive sum: none is negative, and its affinity to itself is positive. -/
theorem sum_affinity_pos (P : Mat 1024 32) (i : Fin 1024) : 0 < ∑ k, affinity P i k :=
  (logistic_pos (Finset.sum_nonneg fun c _ => mul_self_nonneg' (P i c))).trans_le
    (Finset.single_le_sum (f := fun k => affinity P i k) (fun k _ => logistic_nonneg _) (Finset.mem_univ i))

/-- The weighted average may be divided once, after the sum. -/
theorem div_sum_affinity (P : Mat 1024 32) (i : Fin 1024) (c : Fin 32) :
    Ideal.div (∑ j, affinity P i j * P j c) (∑ k, affinity P i k) + P i c = mixed P i c := by
  rw [← sum_div_mul _ _ _ (sum_affinity_pos P i)]; rfl

end Cert.Proof

end
-- ==== Proof.KernelValue.lean ====
/-
  Hand-written, untrusted. WHAT THE KERNEL'S ONE BLOCK COMPUTES: its payloads (Proof/Gen/KernelIdeal/Skeleton.lean) read at an
  index, each as the layer of Proof/Model.lean that it is, and together `network` of the blocks that the kernel loads.
-/
module

public import proofs.«01_k».proof.Defs
public import proofs.«01_k».proof.Proof.Gen.KernelIdeal.Skeleton
public import proofs.«01_k».proof.Proof.Model

@[expose] public section

set_option maxRecDepth 16384

noncomputable section

namespace Cert.Proof

open Cert.KernelIdeal Cert.KernelIdeal.Gen Idealize.ShloMosaic

section Layers

variable (v0 : Vec Ideal S1024x784 .bf16) (v2 : Vec Ideal S784x64 .f32) (v5 : Vec Ideal S1x64 .f32)
  (v10 v11 v15 v18 : Vec Ideal S64x64 .f32) (v21 : Vec Ideal S1x64 .f32)

/-- The aggregated rows, where the first layer's rows and the query matrix are real. -/
theorem pay2_apply (hX : ∀ i l, IsReal (dense (mat v0) (mat v2) (row v5) i l)) (hq : ∀ l j, IsReal (mat v11 l j))
    (i : Fin 1024) (f : Fin 64) :
    k0_pay2 (F := Ideal) v0 v2 v5 v10 v11 v15 v18 v21 (ix2 i f)
      = gated (dense (mat v0) (mat v2) (row v5)) (mat v10) (mat v11) (mat v15) (mat v18) (row v21) i f := by
  pointwise [k0_pay2]
  rw [lit_1024]
  have h := mm_add (Wk := mat v10) hX hq i f
  unfold gated
  rw [← h, ← mul_assoc]
  rfl

/-- The mean the kernel takes of the aggregated rows. -/
theorem pay3_apply (f : Fin 64) :
    k0_pay3 (F := Ideal) v0 v2 v5 v10 v11 v15 v18 v21 (ix2 0 f)
      = mean (mat (k0_pay2 (F := Ideal) v0 v2 v5 v10 v11 v15 v18 v21)) f := by
  pointwise [k0_pay3]
  rw [lit_1024]
  rfl

end Layers

/-- The word that selects an even column: 1 in row `2c`, 0 in every other row. -/
theorem even_word (x : Fin 64) (c : Fin 32) :
    (FloatOps.sitofp (F := Ideal) FTy.f32 (BitVec.setWidth 32
      (IntOp.cmpi CmpIPredicate.eq (BitVec.ofNat 32 x.val) (IntOp.muli (2#32) (BitVec.ofNat 32 c.val)))) : EReal)
      = if x.val = c.val * 2 then 1 else 0 := by
  have h : ∀ (x : Fin 64) (c : Fin 32), BitVec.setWidth 32
      (IntOp.cmpi CmpIPredicate.eq (BitVec.ofNat 32 x.val) (IntOp.muli (2#32) (BitVec.ofNat 32 c.val)))
      = if x.val = c.val * 2 then 1#32 else 0#32 := by decide +kernel
  rw [h]
  split <;> simp [FloatOps.sitofp]

/-- The word that selects an odd column: 1 in row `2c + 1`, 0 in every other row. -/
theorem odd_word (x : Fin 64) (c : Fin 32) :
    (FloatOps.sitofp (F := Ideal) FTy.f32 (BitVec.setWidth 32
      (IntOp.cmpi CmpIPredicate.eq (BitVec.ofNat 32 x.val) (IntOp.addi (IntOp.muli (2#32) (BitVec.ofNat 32 c.val)) 1#32))) : EReal)
      = if x.val = c.val * 2 + 1 then 1 else 0 := by
  have h : ∀ (x : Fin 64) (c : Fin 32), BitVec.setWidth 32
      (IntOp.cmpi CmpIPredicate.eq (BitVec.ofNat 32 x.val) (IntOp.addi (IntOp.muli (2#32) (BitVec.ofNat 32 c.val)) 1#32))
      = if x.val = c.val * 2 + 1 then 1#32 else 0#32 := by decide +kernel
  rw [h]
  split <;> simp [FloatOps.sitofp]

/-- The pooled rows, from the aggregated rows and their mean. -/
theorem pay4_apply (v31 : FVec Ideal S1024x64 .f32) (v35 : FVec Ideal S1x64 .f32) (v50 v54 : Vec Ideal S1x64 .f32)
    (hm : ∀ f, v35 (ix2 0 f) = mean (mat v31) f) (i : Fin 1024) (c : Fin 32) :
    k0_pay4 (F := Ideal) v31 v35 v50 v54 (ix2 i c) = features (mat v31) (row v50) (row v54) i c := by
  pointwise [k0_pay4]
  rw [lit_1024]
  simp only [hm, even_word, odd_word]
  have hn : ∀ f, (v31 (ix2 i f) - mean (mat v31) f) * Ideal.rsqrt (Ideal.div (∑ y, (v31 (ix2 y f) - mean (mat v31) f)
      * (v31 (ix2 y f) - mean (mat v31) f)) ((1024 : ℝ) : EReal) + Ideal.ofBits FTy.f32 925353388#32) * v50 (ix2 0 f) + v54 (ix2 0 f)
      = normed (mat v31) (row v50) (row v54) i f := fun f => centred_mul_rsqrt (mat v31) (row v50) (row v54) i f
  simp only [hn]
  rw [sum_mul_pick _ _ ⟨c.val * 2, by omega⟩ (if_pos rfl) (fun j hj => if_neg fun h => hj (Fin.ext h)),
    sum_mul_pick _ _ ⟨c.val * 2 + 1, by omega⟩ (if_pos rfl) (fun j hj => if_neg fun h => hj (Fin.ext h))]
  rfl

/-- The last stage: the result from the pooled rows. -/
theorem pay1_apply (v31 : FVec Ideal S1024x64 .f32) (v35 : FVec Ideal S1x64 .f32) (v50 v54 : Vec Ideal S1x64 .f32)
    (v91 : Vec Ideal S32x10 .f32) (v93 : Vec Ideal S1x10 .f32) (i : Fin 1024) (o : Fin 10) :
    k0_pay1 (F := Ideal) (k0_pay4 v31 v35 v50 v54) (k0_pay5 v31 v35 v50 v54) (k0_pay6 v31 v35 v50 v54) k0_pay7 v91 v93 (ix2 i o)
      = dense (mixed (mat (k0_pay4 (F := Ideal) v31 v35 v50 v54))) (mat v91) (row v93) i o := by
  pointwise [k0_pay1, k0_pay5, k0_pay6, k0_pay7]
  simp only [lit_half, half_one_add_tanh]
  have hx : ∀ c, Ideal.div (∑ j, Ideal.logistic (∑ x, k0_pay4 (F := Ideal) v31 v35 v50 v54 (ix2 i x) * k0_pay4 (F := Ideal) v31 v35 v50 v54 (ix2 j x))
      * k0_pay4 (F := Ideal) v31 v35 v50 v54 (ix2 j c))
      (∑ j, Ideal.logistic (∑ x, k0_pay4 (F := Ideal) v31 v35 v50 v54 (ix2 i x) * k0_pay4 (F := Ideal) v31 v35 v50 v54 (ix2 j x)))
      + k0_pay4 (F := Ideal) v31 v35 v50 v54 (ix2 i c) = mixed (mat (k0_pay4 (F := Ideal) v31 v35 v50 v54)) i c :=
    fun c => div_sum_affinity (mat (k0_pay4 (F := Ideal) v31 v35 v50 v54)) i c
  simp only [hx]
  rfl

/-- What the body stores, from the twelve blocks it loads: `network` of them, where the first layer's rows and the query matrix
    are real. -/
theorem block (v0 : Vec Ideal S1024x784 .bf16) (v2 : Vec Ideal S784x64 .f32) (v5 : Vec Ideal S1x64 .f32)
    (v10 v11 v15 v18 : Vec Ideal S64x64 .f32) (v21 v50 v54 : Vec Ideal S1x64 .f32) (v91 : Vec Ideal S32x10 .f32)
    (v93 : Vec Ideal S1x10 .f32) (hX : ∀ i l, IsReal (dense (mat v0) (mat v2) (row v5) i l)) (hq : ∀ l j, IsReal (mat v11 l j))
    (i : Fin 1024) (o : Fin 10) :
    k0_pay1 (F := Ideal)
        (k0_pay4 (k0_pay2 v0 v2 v5 v10 v11 v15 v18 v21) (k0_pay3 v0 v2 v5 v10 v11 v15 v18 v21) v50 v54)
        (k0_pay5 (k0_pay2 v0 v2 v5 v10 v11 v15 v18 v21) (k0_pay3 v0 v2 v5 v10 v11 v15 v18 v21) v50 v54)
        (k0_pay6 (k0_pay2 v0 v2 v5 v10 v11 v15 v18 v21) (k0_pay3 v0 v2 v5 v10 v11 v15 v18 v21) v50 v54)
        k0_pay7 v91 v93 (ix2 i o)
      = network (mat v0) (mat v2) (row v5) (mat v10) (mat v11) (mat v15) (mat v18) (row v21) (row v50) (row v54) (mat v91) (row v93) i o := by
  have e2 : mat (k0_pay2 (F := Ideal) v0 v2 v5 v10 v11 v15 v18 v21)
      = gated (dense (mat v0) (mat v2) (row v5)) (mat v10) (mat v11) (mat v15) (mat v18) (row v21) :=
    funext fun i => funext fun f => pay2_apply v0 v2 v5 v10 v11 v15 v18 v21 hX hq i f
  have e4 : mat (k0_pay4 (F := Ideal) (k0_pay2 v0 v2 v5 v10 v11 v15 v18 v21) (k0_pay3 v0 v2 v5 v10 v11 v15 v18 v21) v50 v54)
      = features (mat (k0_pay2 (F := Ideal) v0 v2 v5 v10 v11 v15 v18 v21)) (row v50) (row v54) :=
    funext fun i => funext fun c => pay4_apply _ _ v50 v54 (fun f => pay3_apply v0 v2 v5 v10 v11 v15 v18 v21 f) i c
  rw [pay1_apply, e4, e2]
  rfl

end Cert.Proof

end
-- ==== Proof.KernelRun.lean ====
/-
  Hand-written, untrusted. WHAT THE KERNEL'S RESULT ARRAY HOLDS after the run: its one block is the whole array, and the blocks it
  is computed from are the whole argument arrays as the host lines before the launch re-lay them.
-/
module

public import proofs.«01_k».proof.Proof.KernelValue
public import proofs.«01_k».proof.Proof.Gen.KernelIdeal.Value

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-- The whole-array loads read the blocks, and the one whole-array store leaves its payload. -/
theorem out_eq (x0 : Vec Ideal S1024x784 .bf16) (x1 : Vec Ideal S784x64 .f32) (x2 : Vec Ideal S1x64 .f32)
    (x3 x4 x5 x6 : Vec Ideal S64x64 .f32) (x7 x8 x9 : Vec Ideal S1x64 .f32) (x10 : Vec Ideal S32x10 .f32)
    (x11 : Vec Ideal S1x10 .f32) :
    out0_12 (F := Ideal) x0 x1 x2 x3 x4 x5 x6 x7 x8 x9 x10 x11
      = k0_pay1
        (k0_pay4 (k0_pay2 x0 x1 x2 x3 x4 x5 x6 x7) (k0_pay3 x0 x1 x2 x3 x4 x5 x6 x7) x8 x9)
        (k0_pay5 (k0_pay2 x0 x1 x2 x3 x4 x5 x6 x7) (k0_pay3 x0 x1 x2 x3 x4 x5 x6 x7) x8 x9)
        (k0_pay6 (k0_pay2 x0 x1 x2 x3 x4 x5 x6 x7) (k0_pay3 x0 x1 x2 x3 x4 x5 x6 x7) x8 x9)
        k0_pay7 x10 x11 := by
  unfold_out out0_12
  frame_out

/-! ## The blocks are the argument arrays -/

/-- Window 0 has one block, at the origin. -/
theorem index0 : ∀ (t : Fin cfg0.N) (a : Fin 2), win0_0.index t a = 0 := by decide +kernel
/-- Window 1 has one block, at the origin. -/
theorem index1 : ∀ (t : Fin cfg0.N) (a : Fin 2), win0_1.index t a = 0 := by decide +kernel
/-- Window 2 has one block, at the origin. -/
theorem index2 : ∀ (t : Fin cfg0.N) (a : Fin 2), win0_2.index t a = 0 := by decide +kernel
/-- Window 3 has one block, at the origin. -/
theorem index3 : ∀ (t : Fin cfg0.N) (a : Fin 2), win0_3.index t a = 0 := by decide +kernel
/-- Window 4 has one block, at the origin. -/
theorem index4 : ∀ (t : Fin cfg0.N) (a : Fin 2), win0_4.index t a = 0 := by decide +kernel
/-- Window 5 has one block, at the origin. -/
theorem index5 : ∀ (t : Fin cfg0.N) (a : Fin 2), win0_5.index t a = 0 := by decide +kernel
/-- Window 6 has one block, at the origin. -/
theorem index6 : ∀ (t : Fin cfg0.N) (a : Fin 2), win0_6.index t a = 0 := by decide +kernel
/-- Window 7 has one block, at the origin. -/
theorem index7 : ∀ (t : Fin cfg0.N) (a : Fin 2), win0_7.index t a = 0 := by decide +kernel
/-- Window 8 has one block, at the origin. -/
theorem index8 : ∀ (t : Fin cfg0.N) (a : Fin 2), win0_8.index t a = 0 := by decide +kernel
/-- Window 9 has one block, at the origin. -/
theorem index9 : ∀ (t : Fin cfg0.N) (a : Fin 2), win0_9.index t a = 0 := by decide +kernel
/-- Window 10 has one block, at the origin. -/
theorem index10 : ∀ (t : Fin cfg0.N) (a : Fin 2), win0_10.index t a = 0 := by decide +kernel
/-- Window 11 has one block, at the origin. -/
theorem index11 : ∀ (t : Fin cfg0.N) (a : Fin 2), win0_11.index t a = 0 := by decide +kernel
/-- Window 12 has one block, at the origin. -/
theorem index12 : ∀ (t : Fin cfg0.N) (a : Fin 2), win0_12.index t a = 0 := by decide +kernel

variable (c : Dev nD) (t : Fin cfg0.N)

/-- The first block is the images, each laid out as one row. -/
theorem block0 : mat (n := 1024) (m := 784) (iblk m c 0 t) = images (m ((c : Thread nD τ).loc main_arg0)) := by
  funext i k
  show iblk m c 0 t (ix2 i k) = m ((c : Thread nD τ).loc main_arg0) (ix3 i ⟨k.val / 28, by omega⟩ ⟨k.val % 28, by omega⟩)
  blk_ext! [iblk, V, index0 t]

/-- Block 1 is the first-layer weights. -/
theorem block1 : mat (n := 784) (m := 64) (iblk m c 1 t) = mat (m ((c : Thread nD τ).loc main_arg2)) := by
  funext i k
  show iblk m c 1 t (ix2 i k) = m ((c : Thread nD τ).loc main_arg2) (ix2 i k)
  blk_ext! [iblk, V, index1 t]

/-- Block 3 is the key weights. -/
theorem block3 : mat (n := 64) (m := 64) (iblk m c 3 t) = mat (m ((c : Thread nD τ).loc main_arg4)) := by
  funext i k
  show iblk m c 3 t (ix2 i k) = m ((c : Thread nD τ).loc main_arg4) (ix2 i k)
  blk_ext! [iblk, V, index3 t]

/-- Block 4 is the query weights. -/
theorem block4 : mat (n := 64) (m := 64) (iblk m c 4 t) = mat (m ((c : Thread nD τ).loc main_arg5)) := by
  funext i k
  show iblk m c 4 t (ix2 i k) = m ((c : Thread nD τ).loc main_arg5) (ix2 i k)
  blk_ext! [iblk, V, index4 t]

/-- Block 5 is the value weights. -/
theorem block5 : mat (n := 64) (m := 64) (iblk m c 5 t) = mat (m ((c : Thread nD τ).loc main_arg6)) := by
  funext i k
  show iblk m c 5 t (ix2 i k) = m ((c : Thread nD τ).loc main_arg6) (ix2 i k)
  blk_ext! [iblk, V, index5 t]

/-- Block 6 is the skip weights. -/
theorem block6 : mat (n := 64) (m := 64) (iblk m c 6 t) = mat (m ((c : Thread nD τ).loc main_arg7)) := by
  funext i k
  show iblk m c 6 t (ix2 i k) = m ((c : Thread nD τ).loc main_arg7) (ix2 i k)
  blk_ext! [iblk, V, index6 t]

/-- Block 10 is the classifier weights. -/
theorem block10 : mat (n := 32) (m := 10) (iblk m c 10 t) = mat (m ((c : Thread nD τ).loc main_arg11)) := by
  funext i k
  show iblk m c 10 t (ix2 i k) = m ((c : Thread nD τ).loc main_arg11) (ix2 i k)
  blk_ext! [iblk, V, index10 t]

/-- Block 2 is the first-layer biases, as a row. -/
theorem block2 : row (m := 64) (iblk m c 2 t) = vec (m ((c : Thread nD τ).loc main_arg3)) := by
  funext k
  show iblk m c 2 t (ix2 0 k) = m ((c : Thread nD τ).loc main_arg3) (ix1 k)
  blk_ext! [iblk, V, index2 t]

/-- Block 7 is the second-layer biases, as a row. -/
theorem block7 : row (m := 64) (iblk m c 7 t) = vec (m ((c : Thread nD τ).loc main_arg8)) := by
  funext k
  show iblk m c 7 t (ix2 0 k) = m ((c : Thread nD τ).loc main_arg8) (ix1 k)
  blk_ext! [iblk, V, index7 t]

/-- Block 8 is the normalization's scales, as a row. -/
theorem block8 : row (m := 64) (iblk m c 8 t) = vec (m ((c : Thread nD τ).loc main_arg9)) := by
  funext k
  show iblk m c 8 t (ix2 0 k) = m ((c : Thread nD τ).loc main_arg9) (ix1 k)
  blk_ext! [iblk, V, index8 t]

/-- Block 9 is the normalization's offsets, as a row. -/
theorem block9 : row (m := 64) (iblk m c 9 t) = vec (m ((c : Thread nD τ).loc main_arg10)) := by
  funext k
  show iblk m c 9 t (ix2 0 k) = m ((c : Thread nD τ).loc main_arg10) (ix1 k)
  blk_ext! [iblk, V, index9 t]

/-- Block 11 is the classifier biases, as a row. -/
theorem block11 : row (m := 10) (iblk m c 11 t) = vec (m ((c : Thread nD τ).loc main_arg12)) := by
  funext k
  show iblk m c 11 t (ix2 0 k) = m ((c : Thread nD τ).loc main_arg12) (ix1 k)
  blk_ext! [iblk, V, index11 t]

/-! ## The result array -/

/-- What the launch's argument arrays must hold: real images, first-layer weights and biases, and query weights. -/
def RealArgs (c : Dev nD) : Prop :=
  (∀ i k, IsReal (images (m ((c : Thread nD τ).loc main_arg0)) i k)) ∧ (∀ i k, IsReal (mat (n := 784) (m := 64) (m ((c : Thread nD τ).loc main_arg2)) i k))
    ∧ (∀ k, IsReal (vec (m := 64) (m ((c : Thread nD τ).loc main_arg3)) k)) ∧ ∀ i k, IsReal (mat (n := 64) (m := 64) (m ((c : Thread nD τ).loc main_arg5)) i k)

/-- The network of the launch's argument arrays. -/
abbrev resultOf (c : Dev nD) : (⟨2, ![1024, 10]⟩ : Shape).Idx → EReal :=
  result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- After the run the kernel's result array holds the network of its argument arrays. -/
theorem final_value (h : RealArgs m c) : (dats m 0 c).arrAt 12 cfg0.N = resultOf m c := by
  refine (dats m 0 c).arrAt_eq_of_covers 12 _ (by decide +kernel) fun t hf y => ?_
  blk_simp
  rw [after0_12, out_eq]
  obtain ⟨h0, h2, h3, h5⟩ := h
  obtain ⟨i, o, rfl⟩ : ∃ (i : Fin 1024) (o : Fin 10), y = ix2 i o := ⟨y 0, y 1, eq_ix2 y⟩
  have hX := dense_real h0 h2 h3
  rw [← block0 m c t, ← block1 m c t, ← block2 m c t] at hX
  rw [← block4 m c t] at h5
  have e := block (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) hX h5 i o
  rw [block0, block1, block2, block3, block4, block5, block6, block7, block8, block9, block10, block11] at e
  refine e.trans ?_
  have hj : ((View.whole main_v7).slice (win0_12.rect t)).emb (ix2 i o) = ix2 i o := by
    blk_ext [index12 t]
  rw [hj]
  rfl

/-- The kernel's run: the result array ends holding the network of the argument arrays, which end unchanged. -/
theorem run (ρ : Dev nD → PrngReg) (h : ∀ c, RealArgs m c) :
    θ_run defs (onTc (τ := τ) (main (F := Ideal))) ⟨m, fun _ => 0, ρ⟩ fun r => ∀ c : Dev nD,
      r.2.mem ((c : Thread nD τ).loc main_v7) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ hr c => ⟨(hr c).1.trans (final_value m c (h c)), (hr c).2⟩) (Value.run_blocks m ρ)

end Cert.Proof

end
-- ==== Proof.Pre.lean ====
/-
  Hand-written, untrusted. WHAT THE PRECONDITION GIVES: the kernel's images, first-layer weights and biases, and query weights are
  real numbers.
-/
module

public import proofs.«01_k».proof.Proof.KernelRun
public import proofs.«01_k».proof.Proof.Gen.Pre_finite_inputs
public import Idealize.ShloMosaic.Lib.ReduceAll

@[expose] public section

noncomputable section

namespace Cert.Proof

open Cert.KernelIdeal Cert.KernelIdeal.Gen Idealize.ShloMosaic Idealize.ShloMosaic.TcCoe Idealize.SL.Sem

/-- An array each of whose elements has an absolute value below `+∞` is real everywhere. -/
theorem real_of_all {s t u : Shape} [Subsingleton t.Idx] {axes : List (Fin s.rank)} (x : FVec Ideal s .f32)
    (hb : Cert.Pre_finite_inputs.S_.BroadcastsInDim s ![]) (init : IVec u 1) (h : s.ReducesTo axes t) (hu : 0 < u.numel) (j : t.Idx)
    (e : Host.reduce IntOp.andi (cmpf .olt (Host.absf x)
      (broadcastInDim s ![] hb (constant Cert.Pre_finite_inputs.S_ .f32 0x7F800000#32))) init h hu j = 1#1) (i : s.Idx) :
    IsReal (x i) := by
  have h1 := Host.reduce_andi_all _ init h hu j e i
  have h2 : (BitVec.ofBool (decide (max (x i) (-(x i)) < Ideal.ofBits .f32 0x7F800000#32)) : BitVec 1) = 1#1 := h1
  rw [lit_top] at h2
  refine IsReal.of_abs_lt_top ?_
  by_contra hn
  rw [decide_eq_false hn] at h2
  exact absurd h2 (by decide)

/-- Under the precondition the argument arrays are real where the proof needs it. -/
theorem real_args (m : (ℓ : Loc nD τ sig) → Buf (Elt Ideal) ℓ) (h : Cert.Pre_KernelIdeal_finite_inputs m) (c : Dev nD) :
    RealArgs m c := by
  have e := congrFun (h c) ix0
  dsimp only [Cert.Pre_finite_inputs.fn, Cert.Pre_finite_inputs.fn_part1] at e
  change IntOp.andi (IntOp.andi (IntOp.andi _ _) _) _ = 1#1 at e
  simp only [IntOp.andi_eq_one] at e
  obtain ⟨⟨⟨e0, e2⟩, e3⟩, e5⟩ := e
  have : Subsingleton Cert.Pre_finite_inputs.S_.Idx := ⟨fun a b => funext fun k => k.elim0⟩
  exact ⟨fun i k => real_of_all _ _ _ _ _ _ e0 _, fun i k => real_of_all _ _ _ _ _ _ e2 _, fun k => real_of_all _ _ _ _ _ _ e3 _,
    fun i k => real_of_all _ _ _ _ _ _ e5 _⟩

end Cert.Proof

end
-- ==== Proof.Edges.lean ====
/-
  Hand-written, untrusted. THE REFERENCE'S EDGE LIST READ AT AN INDEX. Edge `e` of the 1048576 leads from row `e mod 1024` to that
  same row, so a table gathered by edges holds at edge `e` the table's row `e mod 1024`, and the sum of the edges' messages that
  arrive at row `i` is 1024 copies of row `i`'s own message.
-/
module

public import proofs.«01_k».proof.Defs
public import proofs.«01_k».proof.Proof.Gen.ReferenceIdeal
public import Idealize.ShloMosaic.Lib.Pipeline.ValueKit
public import Idealize.ShloMosaic.Lib.Routing.Ops
public import Idealize.ShloMosaic.Lib.Routing.OpsPair
public import Idealize.ShloMosaic.Lib.Pointwise.IndexBridge

@[expose] public section

set_option maxRecDepth 16384

noncomputable section

namespace Cert.Proof

open Cert.ReferenceIdeal Cert.ReferenceIdeal.Gen Idealize.ShloMosaic

/-- A table gathered by edges: at edge `e`, the table's row `e mod 1024`. -/
theorem gather_apply (x : FVec Ideal S1024x64 .f32) (idx : IVec S1048576x1 32)
    (hidx : ∀ e : Fin 1048576, idx (ix2 e 0) = BitVec.ofNat 32 (e.val % 1024)) (e : Fin 1048576) (f : Fin 64) :
    Host.gather gather_S1024x64_S1048576x1_S1048576x64_1_0_n_n_0_1_164 x idx (ix2 e f)
      = x (ix2 ⟨e.val % 1024, Nat.mod_lt _ (by decide)⟩ f) := by
  have h := hidx e
  rw [ix2_eq_valueIdx] at h ⊢
  rw [ix2_eq_valueIdx]
  exact Routing.gather_row _ rfl rfl rfl rfl rfl x idx e f ⟨e.val % 1024, Nat.mod_lt _ (by decide)⟩ h (by decide)

/-- The message of edge `e`, column `y`, is added at row `i`, column `f` exactly when the edge's word is `i` and the columns
    agree. -/
theorem lands_iff (idx : IVec S1048576x1 32) (e : Fin 1048576) (y : Fin 64) (i : Fin 1024) (f : Fin 64) :
    scatter_S1024x64_S1048576x1_S1048576x64_1_0_0_1.resultIdx? (ix2 e y) idx = some (ix2 i f)
      ↔ (idx (ix2 e 0)).toInt = (i.val : Int) ∧ y = f := by
  rw [Routing.resultIdx?_eq_some]
  have hw0 : scatter_S1024x64_S1048576x1_S1048576x64_1_0_0_1.window (ix2 e y) (0 : Fin 2) = 0 := rfl
  have hw1 : scatter_S1024x64_S1048576x1_S1048576x64_1_0_0_1.window (ix2 e y) (1 : Fin 2) = y.val := rfl
  have hs1 : scatter_S1024x64_S1048576x1_S1048576x64_1_0_0_1.start (ix2 e y) idx (1 : Fin 2) = 0 := rfl
  have hs0 : scatter_S1024x64_S1048576x1_S1048576x64_1_0_0_1.start (ix2 e y) idx (0 : Fin 2) = (idx (ix2 e 0)).toInt :=
    congrArg (fun x => (idx x).toInt) (funext fun b => match b with | ⟨0, _⟩ => rfl | ⟨1, _⟩ => rfl)
  constructor
  · intro h
    have h0 := h (0 : Fin 2)
    have h1 := h (1 : Fin 2)
    rw [hs0, hw0] at h0
    rw [hs1, hw1] at h1
    refine ⟨by simpa using h0, Fin.ext ?_⟩
    have : ((0 : Int) + (y.val : Int)) = (f.val : Int) := h1
    omega
  · rintro ⟨h, rfl⟩ a
    match a with
    | ⟨0, _⟩ => exact (congrArg₂ (· + ·) (hs0.trans h) (congrArg Nat.cast hw0)).trans (by simp)
    | ⟨1, _⟩ => exact (congrArg₂ (· + ·) hs1 (congrArg Nat.cast hw1)).trans (by simp)

/-- The edges' messages added up by row: where every edge that arrives at row `i` brings the same message `v`, row `i` receives
    1024 copies of it on top of what it held. -/
theorem scatter_apply (x : FVec Ideal S1024x64 .f32) (idx : IVec S1048576x1 32) (upd : FVec Ideal S1048576x64 .f32)
    (hidx : ∀ e : Fin 1048576, idx (ix2 e 0) = BitVec.ofNat 32 (e.val % 1024)) (i : Fin 1024) (f : Fin 64) (v : EReal)
    (hupd : ∀ e : Fin 1048576, e.val % 1024 = i.val → upd (ix2 e f) = v) :
    Ideal.hostScatterAdd scatter_S1024x64_S1048576x1_S1048576x64_1_0_0_1 x idx upd (ix2 i f)
      = x (ix2 i f) + ∑ _a : Fin 1024, v := by
  have hmod : ∀ e : Fin 1048576, ((idx (ix2 e 0)).toInt = (i.val : Int)) ↔ e.val % 1024 = i.val := fun e => by
    have hlt : e.val % 1024 < 1024 := Nat.mod_lt _ (by decide)
    rw [hidx e, StableHlo.Predicate.toInt_ofNat_small _ (by omega)]
    omega
  have hlands : ∀ (e : Fin 1048576) (y : Fin 64),
      scatter_S1024x64_S1048576x1_S1048576x64_1_0_0_1.resultIdx? (ix2 e y) idx = some (ix2 i f) ↔ e.val % 1024 = i.val ∧ y = f :=
    fun e y => by rw [lands_iff, hmod]
  unfold Ideal.hostScatterAdd
  refine congrArg (fun z : EReal => x (ix2 i f) + z) ?_
  refine Finset.sum_nbij' (fun j : S1048576x64.Idx => (⟨(j 0).val / 1024, Nat.div_lt_of_lt_mul (j 0).isLt⟩ : Fin 1024))
    (fun a : Fin 1024 => ix2 (⟨a.val * 1024 + i.val, by omega⟩ : Fin 1048576) f) ?_ ?_ ?_ ?_ ?_
  · intro j _; exact Finset.mem_univ _
  · intro a _
    refine Finset.mem_filter.2 ⟨Finset.mem_univ _, (hlands _ _).2 ⟨?_, rfl⟩⟩
    show (a.val * 1024 + i.val) % 1024 = i.val
    omega
  · intro j hj
    obtain ⟨e, y, rfl⟩ : ∃ (e : Fin 1048576) (y : Fin 64), j = ix2 e y := ⟨j 0, j 1, eq_ix2 j⟩
    obtain ⟨he, rfl⟩ := (hlands e y).1 (Finset.mem_filter.1 hj).2
    refine congrArg (fun e' : Fin 1048576 => ix2 e' y) (Fin.ext ?_)
    show e.val / 1024 * 1024 + i.val = e.val
    omega
  · intro a _
    refine Fin.ext ?_
    show (a.val * 1024 + i.val) / 1024 = a.val
    omega
  · intro j hj
    obtain ⟨e, y, rfl⟩ : ∃ (e : Fin 1048576) (y : Fin 64), j = ix2 e y := ⟨j 0, j 1, eq_ix2 j⟩
    obtain ⟨he, rfl⟩ := (hlands e y).1 (Finset.mem_filter.1 hj).2
    exact hupd e he

end Cert.Proof

end
-- ==== Proof.RefRows.lean ====
/-
  Hand-written, untrusted. THE REFERENCE'S ROWS: the terms its run ends in (Proof/Gen/ReferenceIdeal/Run.lean), read at an
  index one after another, each as the layer of Proof/Model.lean that it is.
-/
module

public import proofs.«01_k».proof.Proof.Model
public import proofs.«01_k».proof.Proof.Edges
public import proofs.«01_k».proof.Proof.Gen.ReferenceIdeal.Run
public import Idealize.ShloMosaic.Lib.Tactic.CleanTypes

@[expose] public section

set_option maxRecDepth 16384

noncomputable section

namespace Cert.Proof

open Cert.ReferenceIdeal Cert.ReferenceIdeal.Gen Cert.ReferenceIdeal.Value Idealize.ShloMosaic Idealize.ShloMosaic.TcCoe
  Idealize.ShloMosaic.StableHlo Idealize.SL.Sem

section Terms

variable (V : Valuation τ sig (Elt Ideal))

/-- The first layer's rows. -/
abbrev rows1 : Mat 1024 64 :=
  dense (images (V (Proc.devRef .tc main_arg0))) (mat (n := 784) (m := 64) (V (Proc.devRef .tc main_arg2)))
    (vec (m := 64) (V (Proc.devRef .tc main_arg3)))

/-- The aggregated rows. -/
abbrev rows2 : Mat 1024 64 :=
  gated (rows1 V) (mat (n := 64) (m := 64) (V (Proc.devRef .tc main_arg4))) (mat (n := 64) (m := 64) (V (Proc.devRef .tc main_arg5)))
    (mat (n := 64) (m := 64) (V (Proc.devRef .tc main_arg6))) (mat (n := 64) (m := 64) (V (Proc.devRef .tc main_arg7)))
    (vec (m := 64) (V (Proc.devRef .tc main_arg8)))

/-- The pooled rows. -/
abbrev rows3 : Mat 1024 32 :=
  features (rows2 V) (vec (m := 64) (V (Proc.devRef .tc main_arg9))) (vec (m := 64) (V (Proc.devRef .tc main_arg10)))

/-- Edge `e` has the word `e mod 1024`. -/
theorem v4_apply (e : Fin 1048576) : (res_main_v4 V : IVec S1048576 32) (ix1 e) = BitVec.ofNat 32 (e.val % 1024) := by
  unfold res_main_v4
  clean_types
  pointwise

/-- The reference's first layer. -/
theorem v8_apply (i : Fin 1024) (f : Fin 64) : (res_main_v8 V : FVec Ideal S1024x64 .f32) (ix2 i f) = rows1 V i f := by
  unfold res_main_v8
  clean_types
  pointwise
  rfl

/-- The index words of the gathers: the edges' words, which the wrap of negative indices leaves as they are. -/
theorem edge_word (e : Fin 1048576) :
    (broadcastInDim S1048576x1 ![0] bcast_S1048576_S1048576x1_0
      (select (cmpi .slt (res_main_v4 V) (broadcastInDim S1048576 ![] bcast_S_S1048576 (constantI S_ 32 0#32)))
        (addi (res_main_v4 V) (broadcastInDim S1048576 ![] bcast_S_S1048576 (constantI S_ 32 1024#32))) (res_main_v4 V))
      : IVec S1048576x1 32) (ix2 e 0) = BitVec.ofNat 32 (e.val % 1024) := by
  pointwise [v4_apply]
  exact Routing.wrap_of_lt _ _ (by rw [BitVec.toNat_ofNat]; omega)

/-- The scatter's index words: the edges' words. -/
theorem edge_word' (e : Fin 1048576) :
    (broadcastInDim S1048576x1 ![0] bcast_S1048576_S1048576x1_0 (res_main_v4 V) : IVec S1048576x1 32) (ix2 e 0)
      = BitVec.ofNat 32 (e.val % 1024) := by
  pointwise [v4_apply]

/-- The reference's second layer: node `i` receives one message from each of the 1024 edges that end in it, and all of these are
    the same. -/
theorem v49_apply (i : Fin 1024) (f : Fin 64) : (res_main_v49 V : FVec Ideal S1024x64 .f32) (ix2 i f) = rows2 V i f := by
  unfold res_main_v49
  clean_types
  pointwise
  simp only [v8_apply]
  refine (congrArg (fun z : EReal => max (_ + z) 0) (scatter_apply _ _ _ (edge_word' V) i f
    (Ideal.logistic (mm (rows1 V) (mat (n := 64) (m := 64) (V (Proc.devRef .tc main_arg4))) i f
      + mm (rows1 V) (mat (n := 64) (m := 64) (V (Proc.devRef .tc main_arg5))) i f)
      * mm (rows1 V) (mat (n := 64) (m := 64) (V (Proc.devRef .tc main_arg6))) i f) ?_)).trans ?_
  · intro e he
    have hi : (⟨e.val % 1024, Nat.mod_lt _ (by omega)⟩ : Fin 1024) = i := Fin.ext he
    pointwise
    simp only [gather_apply _ _ (edge_word V), hi]
    pointwise
    simp only [v8_apply]
    rfl
  · rw [sum_const_eq_mul _ (by omega)]
    have h0 : (broadcastInDim S1024x64 ![] bcast_S_S1024x64 (constant S_ FTy.f32 0#32) : FVec Ideal S1024x64 .f32) (ix2 i f) = 0 := by
      pointwise
    rw [h0, zero_add]
    norm_num [gated, dense, mm]

end Terms

end Cert.Proof

end
-- ==== Proof.RefRun.lean ====
/-
  Hand-written, untrusted. WHAT THE REFERENCE COMPUTES: its normalized and pooled rows, its affinities and its result, as the layers of
  Proof/Model.lean that they are; and its run.
-/
module

public import proofs.«01_k».proof.Proof.Model
public import proofs.«01_k».proof.Proof.RefRows
public import proofs.«01_k».proof.Proof.Gen.ReferenceIdeal.Run
public import Idealize.ShloMosaic.Lib.Tactic.CleanTypes

@[expose] public section

set_option maxRecDepth 16384

noncomputable section

namespace Cert.Proof

open Cert.ReferenceIdeal Cert.ReferenceIdeal.Gen Cert.ReferenceIdeal.Value Idealize.ShloMosaic Idealize.ShloMosaic.TcCoe
  Idealize.ShloMosaic.StableHlo Idealize.SL.Sem

section Terms

variable (V : Valuation τ sig (Elt Ideal))

/-- The reference's centred rows. -/
theorem call1_v5_apply (i : Fin 1024) (f : Fin 64) :
    (res_main_call1_v5 V : FVec Ideal S1024x64 .f32) (ix2 i f) = centred (rows2 V) i f := by
  unfold res_main_call1_v5
  clean_types
  pointwise
  simp only [v49_apply, lit_1024]
  rfl

/-- The reference's normalized and pooled rows. -/
theorem v70_apply (i : Fin 1024) (c : Fin 32) : (res_main_v70 V : FVec Ideal S1024x32 .f32) (ix2 i c) = rows3 V i c := by
  unfold res_main_v70
  clean_types
  pointwise [res_main_call1_v8]
  simp only [v49_apply, call1_v5_apply, lit_1024, lit_bot, sitofp_zero, sub_zero, fold_max_two]
  have h0 : (0 : EReal) < ((1024 : ℝ) : EReal) := by norm_num
  simp only [h0, if_true]
  rfl

/-- The reference's affinities. -/
theorem v78_apply (i j : Fin 1024) : (res_main_v78 V : FVec Ideal S1024x1024 .f32) (ix2 i j) = affinity (rows3 V) i j := by
  unfold res_main_v78
  clean_types
  pointwise
  simp only [v70_apply]
  rfl

end Terms

variable (m : (ℓ : Loc nD τ sig) → Buf (Elt Ideal) ℓ) (c : Dev nD)

/-- The network of the argument arrays of the reference's launch. -/
abbrev refResult : (⟨2, ![1024, 10]⟩ : Shape).Idx → EReal :=
  result (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

/-- The reference's run: its result array ends holding the network of its argument arrays, which end unchanged. -/
theorem ref_run (ρ : Dev nD → PrngReg) :
    θ_run defs (onTc (τ := τ) (main (F := Ideal))) ⟨m, fun _ => 0, ρ⟩ fun r => ∀ c : Dev nD,
      r.2.mem ((c : Thread nD τ).loc main_v88) = refResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) := by
  refine (θ_run defs _ _).mono (fun _ hr c => ⟨(hr c).1.trans ?_, (hr c).2⟩) (Value.run m ρ)
  funext y
  obtain ⟨i, o, rfl⟩ : ∃ (i : Fin 1024) (o : Fin 10), y = ix2 i o := ⟨y 0, y 1, eq_ix2 y⟩
  clean_types
  pointwise
  simp only [v78_apply, v70_apply]
  rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_inputs
public import proofs.«01_k».proof.Proof.Pre
public import proofs.«01_k».proof.Proof.RefRun
public import Idealize.ShloMosaic.Adequacy
public import Idealize.ShloMosaic.Init

@[expose] public section

noncomputable section

namespace Cert.Proof

open Idealize.ShloMosaic Idealize.SL.Sem

/-- The reference runs, leaves its arguments unchanged, and has no semaphore to leave at anything but zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference end with one result: the network of the argument arrays. -/
theorem same_result : Cert.algebraic_KernelIdeal_ReferenceIdeal_pre_finite_inputs := by
  intro m ρ m' ρ' hpre hagree
  refine ⟨fun c => resultOf m c, run m ρ (real_args m hpre), (θ_run _ _ _).mono (fun r h c => ⟨(h c).1.trans ?_, (h c).2⟩) (ref_run m' ρ')⟩
  obtain ⟨h0, _, h2, h3, h4, h5, h6, h7, h8, h9, h10, h11, h12⟩ := hagree c
  show result _ _ _ _ _ _ _ _ _ _ _ _ = result _ _ _ _ _ _ _ _ _ _ _ _
  rw [h0, h2, h3, h4, h5, h6, h7, h8, h9, h10, h11, h12]

/-- Everything claimed: the kernel, its ideal reading and the reference each run, change no argument and leave every semaphore at
    zero; the ideal reading is the kernel's own text; and it computes the reference's result. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, same_result⟩

end Cert.Proof

end
